-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192 : Shape := ⟨2, ![4, 8192]⟩
abbrev S8192x2048 : Shape := ⟨2, ![8192, 2048]⟩
abbrev S32768x2048 : Shape := ⟨2, ![32768, 2048]⟩
abbrev S56x2048 : Shape := ⟨2, ![56, 2048]⟩
abbrev S_ : Shape := ⟨0, ![]⟩
abbrev S32x2048 : Shape := ⟨2, ![32, 2048]⟩
abbrev S4x8192x2048 : Shape := ⟨3, ![4, 8192, 2048]⟩

abbrev nBuf : Table → Nat
  | .hbm => 4
  | .local .scVector .vmem => 1
  | _ => 0

abbrev bufTy : (tb : Table) → Fin (nBuf tb) → BufTy
  | .hbm, ⟨0, _⟩ => ⟨S4x8192, .i32⟩
  | .hbm, ⟨1, _⟩ => ⟨S8192x2048, .f32⟩
  | .hbm, ⟨2, _⟩ => ⟨S32768x2048, .f32⟩
  | .hbm, ⟨3, _⟩ => ⟨S4x8192x2048, .f32⟩
  | .local .scVector .vmem, ⟨0, _⟩ => ⟨S56x2048, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_2 : BitVec 32 := 0#32
  ![v3.toNat, 0]
def k0_off2 (i : grid0.Coords) (c0_i32_12 : BitVec 32) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v12 : BitVec 32 := Scalar.addi c0_i32_12 v2
  let v13 : BitVec 32 := Scalar.addi v12 c0_i32_13
  let c0_i32_16 : BitVec 32 := 0#32
  ![v13.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c224_i32 : BitVec 32 := 224#32
  let v199 : BitVec 32 := Scalar.addi v2 c224_i32
  let c0_i32_271 : BitVec 32 := 0#32
  ![v199.toNat, 0]
def k0_off4 (i : grid0.Coords) (c0_i32_281 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v208 : BitVec 32 := Scalar.addi c0_i32_281 v2
  let c224_i32_282 : BitVec 32 := 224#32
  let v209 : BitVec 32 := Scalar.addi v208 c224_i32_282
  let c0_i32_285 : BitVec 32 := 0#32
  ![v209.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S8192x2048 : Shape := ⟨2, ![8192, 2048]⟩
abbrev S8192 : Shape := ⟨1, ![8192]⟩
abbrev S_ : Shape := ⟨0, ![]⟩
abbrev S1x8192 : Shape := ⟨2, ![1, 8192]⟩
abbrev S4x8192x1 : Shape := ⟨3, ![4, 8192, 1]⟩
abbrev S1 : Shape := ⟨1, ![1]⟩
abbrev S1x1x1 : Shape := ⟨3, ![1, 1, 1]⟩
abbrev S4x8192x2048 : Shape := ⟨3, ![4, 8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x2048, .f32⟩
  | .hbm, ⟨2, _⟩ => ⟨S8192, .i32⟩
  | .hbm, ⟨3, _⟩ => ⟨S_, .i32⟩
  | .hbm, ⟨4, _⟩ => ⟨S4x8192, .i32⟩
  | .hbm, ⟨5, _⟩ => ⟨S1x8192, .i32⟩
  | .hbm, ⟨6, _⟩ => ⟨S4x8192, .i32⟩
  | .hbm, ⟨7, _⟩ => ⟨S4x8192, .i32⟩
  | .hbm, ⟨8, _⟩ => ⟨S_, .i32⟩
  | .hbm, ⟨9, _⟩ => ⟨S4x8192, .i32⟩
  | .hbm, ⟨10, _⟩ => ⟨S4x8192, .i1⟩
  | .hbm, ⟨11, _⟩ => ⟨S_, .i32⟩
  | .hbm, ⟨12, _⟩ => ⟨S4x8192, .i32⟩
  | .hbm, ⟨13, _⟩ => ⟨S4x8192, .i32⟩
  | .hbm, ⟨14, _⟩ => ⟨S4x8192, .i32⟩
  | .hbm, ⟨15, _⟩ => ⟨S4x8192x1, .i32⟩
  | .hbm, ⟨16, _⟩ => ⟨S1, .i32⟩
  | .hbm, ⟨17, _⟩ => ⟨S_, .i32⟩
  | .hbm, ⟨18, _⟩ => ⟨S4x8192x1, .i32⟩
  | .hbm, ⟨19, _⟩ => ⟨S4x8192x1, .i1⟩
  | .hbm, ⟨20, _⟩ => ⟨S1x1x1, .i32⟩
  | .hbm, ⟨21, _⟩ => ⟨S4x8192x1, .i32⟩
  | .hbm, ⟨22, _⟩ => ⟨S4x8192x1, .i1⟩
  | .hbm, ⟨23, _⟩ => ⟨S4x8192x1, .i1⟩
  | .hbm, ⟨24, _⟩ => ⟨S_, .i1⟩
  | .hbm, ⟨25, _⟩ => ⟨S4x8192, .i1⟩
  | .hbm, ⟨26, _⟩ => ⟨S4x8192x2048, .f32⟩
  | .hbm, ⟨27, _⟩ => ⟨S4x8192x2048, .i1⟩
  | .hbm, ⟨28, _⟩ => ⟨S_, .f32⟩
  | .hbm, ⟨29, _⟩ => ⟨S4x8192x2048, .f32⟩
  | .hbm, ⟨30, _⟩ => ⟨S4x8192x2048, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Setup.lean ====
/-
  The launch of the row-broadcast kernel as the SparseCore launch theorem sees it: the configuration its one call
  prints, the ghost state the proof runs over (the launch handshakes' rounds beside the counters the local copies are
  tracked by), and the arrays and memrefs the body addresses.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Bcast

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

/-- The handshakes' rounds, the left factor of the ghost state. -/
abbrev EH : Emb UH (MT nD τ sig (HIx 1) (Elt F) ℕ UU ℕ) := embL
/-- The counters of the copies in flight, the right factor. -/
abbrev EC : UEmb Counters (MT nD τ sig (HIx 1) (Elt F) ℕ UU ℕ) := countersEmb (U := UU)

/-! ## The arrays, the scratch and the threads -/

/-- The table (an argument) and the flat output the kernel fills, as locations of device `d`. -/
abbrev tLoc (d : Dev nD) : Loc nD τ sig := (SparseCore.T d).loc main_arg1
abbrev oLoc (d : Dev nD) : Loc nD τ sig := (SparseCore.T d).loc main_v0

/-- The memrefs a subcore's body is called with: the table, the flat output, the staging scratch. -/
abbrev tW : Memref sig .scVector .hbm S8192x2048 .f32 := Memref.whole main_arg1_scv
abbrev oW : Memref sig .scVector .hbm S32768x2048 .f32 := Memref.whole main_v0_scv
abbrev bW : Memref sig .scVector .vmem S56x2048 .f32 := Memref.whole cc0_scratch0

/-- The SparseCore and the subcore of a task's grid coordinates, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Bcast

end
-- ==== Proof.Chunk.lean ====
/-
  One chunk of a task, once for every chunk: the table rows are fetched into the staging scratch, then sent from it to
  the four batches of the output, the four copies in flight together on one semaphore. What each batch's rows end as is
  stated, not only that they were written.
-/
module

public import proofs.«01_k».proof.Proof.Setup

@[expose] public section

noncomputable section

namespace Cert.Proof.Bcast

open Cert.KernelIdeal Cert.KernelIdeal.Gen
open Idealize.ShloMosaic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The fetch of a chunk: its copy and the wait for it. -/
abbrev fetch {Λ : Labels} {p : Proc τ} {α : Type} {s : Shape} (tw : Memref sig p.kind .hbm s .f32) (bw : Memref sig p.kind .vmem s .f32)
    (rs : DmaSem sig) (hbw : DmaTarget.Typed (nD := nD) .hbm (.dma rs) (.here bw)) (k : PUnit → Prog (TpuEff nD τ sig (Elt F) Λ p) α) :
    Prog (TpuEff nD τ sig (Elt F) Λ p) α :=
  .op (.enqueueDma tw (.here bw) (.dma rs) (View.wordExact_bits rfl) (View.wordExact_bits rfl) hbw) fun _ =>
  .op (.waitDma2 rs tw bw (View.wordExact_bits rfl) (View.wordExact_bits rfl)) k

/-- The sending of a chunk: four copies started, then four waits. -/
abbrev spread {Λ : Labels} {p : Proc τ} {α : Type} {s : Shape} (bw : Memref sig p.kind .vmem s .f32) (ow : Fin 4 → Memref sig p.kind .hbm s .f32)
    (ws : DmaSem sig) (how : ∀ b, DmaTarget.Typed (nD := nD) .vmem (.dma ws) (.here (ow b))) (k : PUnit → Prog (TpuEff nD τ sig (Elt F) Λ p) α) :
    Prog (TpuEff nD τ sig (Elt F) Λ p) α :=
  .op (.enqueueDma bw (.here (ow 0)) (.dma ws) (View.wordExact_bits rfl) (View.wordExact_bits rfl) (how 0)) fun _ =>
  .op (.enqueueDma bw (.here (ow 1)) (.dma ws) (View.wordExact_bits rfl) (View.wordExact_bits rfl) (how 1)) fun _ =>
  .op (.enqueueDma bw (.here (ow 2)) (.dma ws) (View.wordExact_bits rfl) (View.wordExact_bits rfl) (how 2)) fun _ =>
  .op (.enqueueDma bw (.here (ow 3)) (.dma ws) (View.wordExact_bits rfl) (View.wordExact_bits rfl) (how 3)) fun _ =>
  .op (.waitDma2 ws bw (ow 0) (View.wordExact_bits rfl) (View.wordExact_bits rfl)) fun _ =>
  .op (.waitDma2 ws bw (ow 1) (View.wordExact_bits rfl) (View.wordExact_bits rfl)) fun _ =>
  .op (.waitDma2 ws bw (ow 2) (View.wordExact_bits rfl) (View.wordExact_bits rfl)) fun _ =>
  .op (.waitDma2 ws bw (ow 3) (View.wordExact_bits rfl) (View.wordExact_bits rfl)) k

/-- Four conjuncts, spelled out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

variable {Λ : Labels} {defs : Defs nD τ sig (Elt F) Λ} (𝒱 : Variants) (c : Thread nD τ) (bd : Option 𝒱.V)
variable {α : Type} {s : Shape}
variable {tw : Memref sig c.2.kind .hbm s .f32} {bw : Memref sig c.2.kind .vmem s .f32} {ow : Fin 4 → Memref sig c.2.kind .hbm s .f32}

/-- The fetch: the staging scratch holds the table window it read, the window and the semaphore as before. -/
theorem wp_fetch (hs : 0 < s.numel) {rs : DmaSem sig} {hbw : DmaTarget.Typed (nD := nD) .hbm (.dma rs) (.here bw)}
    {k : PUnit → Prog (TpuEff nD τ sig (Elt F) Λ c.2) α} {Q : α → sProp 𝕄} {ft : Buf (Elt F) (tw.view.loc c)} {fb : Buf (Elt F) (bw.view.loc c)}
    {O : CellTallies nD τ sig (HIx 1)} {W : Waits sig (HIx 1)} :
    iprop((MayWaits c none O : sProp 𝕄) ∗ (tw.view.loc c ↦[tw.view.set]{fullShare} ft) ∗ (bw.view.loc c ↦{fullShare} fb) ∗ semVal (c, .dma rs) 0 ∗ owes c O W)
      ⊢ iprop((iprop((tw.view.loc c ↦[tw.view.set]{fullShare} ft)
              ∗ (bw.view.loc c ↦{fullShare} bw.view.write (Elt F) fb (tw.view.read (Elt F) ft) Finset.univ)
              ∗ semVal (c, .dma rs) 0 ∗ owes c O (insert (SemLoc.dma rs, none) W)) -∗ wp frame (wpE defs 𝒱 c bd) Set.univ (k ⟨⟩) Q)
          -∗ wp frame (wpE defs 𝒱 c bd) Set.univ (fetch tw bw rs hbw k) Q) := by
  iintro ⟨#Hmw, Ht, Hb, Hs, HO⟩ Hk
  iapply (wp_dmaLocal EC 𝒱 c bd none _ rfl (View.amount_pos _ _ hs) (Finset.subset_univ _)) $$ [Ht Hb Hs]
  · isplitl [Ht]; · iexact Ht
    isplitl [Hb] <;> iassumption
  iintro Hf
  ihave Hw := (MayWaits.elim (SemLoc.dma rs)) $$ Hmw
  iapply (wp_waitLocalO EC 𝒱 c bd none rfl) $$ [Hf HO Hw]
  · isplitl [Hf]; · iexact Hf
    isplitl [HO] <;> iassumption
  iintro ⟨⟨Hb, Ht⟩, Hs, HO⟩
  iapply Hk
  isplitl [Ht]; · iexact Ht
  isplitl [Hb]; · iexact Hb
  isplitl [Hs] <;> iassumption

/-- What the copies of a chunk's sending deliver: batch `b`'s rows at `g b`, and a share of the staging scratch back. -/
abbrev sent (bw : Memref sig c.2.kind .vmem s .f32) (ow : Fin 4 → Memref sig c.2.kind .hbm s .f32) (fb : Buf (Elt F) (bw.view.loc c))
    (g : ∀ b, Buf (Elt F) ((ow b).view.loc c)) (b : Fin 4) : sProp 𝕄 :=
  iprop(((ow b).view.loc c ↦[(ow b).view.set]{fullShare} g b) ∗ bw.view.loc c ↦[bw.view.set]{shareTok fullShare 4 b} fb)

/-- The sending: every batch's rows end at `g b`, provided `g b` is what a copy from the staging scratch writes there. -/
theorem wp_spread (hs : 0 < s.numel) {ws : DmaSem sig} {how : ∀ b, DmaTarget.Typed (nD := nD) .vmem (.dma ws) (.here (ow b))}
    {k : PUnit → Prog (TpuEff nD τ sig (Elt F) Λ c.2) α} {Q : α → sProp 𝕄} {fb : Buf (Elt F) (bw.view.loc c)} {fo g : ∀ b, Buf (Elt F) ((ow b).view.loc c)}
    {N : ℕ} (hN : ∀ b, (ow b).view.dmaCredit = N)
    (hg : ∀ b, ∀ i ∈ (ow b).view.set, (ow b).view.write (Elt F) (fo b) (bw.view.read (Elt F) fb) Finset.univ i = g b i)
    {O : CellTallies nD τ sig (HIx 1)} {W : Waits sig (HIx 1)} :
    iprop((MayWaits c none O : sProp 𝕄) ∗ (bw.view.loc c ↦{fullShare} fb) ∗ (bigSep Finset.univ fun b => (ow b).view.loc c ↦[(ow b).view.set]{fullShare} fo b)
          ∗ semVal (c, .dma ws) 0 ∗ owes c O W)
      ⊢ iprop((iprop((bw.view.loc c ↦{fullShare} fb) ∗ (bigSep Finset.univ fun b => (ow b).view.loc c ↦[(ow b).view.set]{fullShare} g b)
              ∗ semVal (c, .dma ws) 0 ∗ owes c O (insert (SemLoc.dma ws, none) W)) -∗ wp frame (wpE defs 𝒱 c bd) Set.univ (k ⟨⟩) Q)
          -∗ wp frame (wpE defs 𝒱 c bd) Set.univ (spread bw ow ws how k) Q) := by
  have hA : ∀ b, (ow b).view.amount (.dma ws : SemLoc sig) = N := hN
  have hN0 : 0 < N := hN 0 ▸ View.dmaCredit_pos _ hs
  have hD : ∀ b, iprop(((ow b).view.loc c ↦[(ow b).view.set]{fullShare} (ow b).view.write (Elt F) (fo b) (ReadAs.same.apply (bw.view.read (Elt F) fb)) Finset.univ)
      ∗ (bw.view.loc c ↦[bw.view.set]{shareTok fullShare 4 b} fb)) ⊢ sent c bw ow fb g b := fun b =>
    sep_mono_left (Entails.of_eq (pointsTo_congr (hg b)))
  iintro ⟨#Hmw, Hb, Ho, Hs, HO⟩ Hk
  ihave Hb := (pointsTo_split_subset (Finset.subset_univ bw.view.set)).1 $$ Hb
  icases Hb with ⟨Hbw, Hrest⟩
  ihave Hbw := (pointsTo_toks_split fullShare 4) $$ Hbw
  icases Hbw with ⟨Hdrop, Htoks⟩
  ihave Ho := (Entails.of_eq (bigSep_four _)) $$ Ho
  ihave Htoks := (Entails.of_eq (bigSep_four _)) $$ Htoks
  icases Ho with ⟨Ho0, Ho1, Ho2, Ho3⟩
  icases Htoks with ⟨Ht0, Ht1, Ht2, Ht3⟩
  imod (batch_alloc' EC c none N (sent c bw ow fb g) (sm := .dma ws) (E := Set.univ)) $$ Hs with HB
  iapply (wp_dmaBatch EC 𝒱 c bd none N (hA 0) subset_rfl (by decide : 0 < 4) (Nat.zero_le _) (hD 0)) $$ [Ht0 Ho0 HB]
  · isplitl [Ht0]; · iexact Ht0
    isplitl [Ho0] <;> iassumption
  iintro HB
  iapply (wp_dmaBatch EC 𝒱 c bd none N (hA 1) subset_rfl (by decide : 1 < 4) (Nat.zero_le _) (hD 1)) $$ [Ht1 Ho1 HB]
  · isplitl [Ht1]; · iexact Ht1
    isplitl [Ho1] <;> iassumption
  iintro HB
  iapply (wp_dmaBatch EC 𝒱 c bd none N (hA 2) subset_rfl (by decide : 2 < 4) (Nat.zero_le _) (hD 2)) $$ [Ht2 Ho2 HB]
  · isplitl [Ht2]; · iexact Ht2
    isplitl [Ho2] <;> iassumption
  iintro HB
  iapply (wp_dmaBatch EC 𝒱 c bd none N (hA 3) subset_rfl (by decide : 3 < 4) (Nat.zero_le _) (hD 3)) $$ [Ht3 Ho3 HB]
  · isplitl [Ht3]; · iexact Ht3
    isplitl [Ho3] <;> iassumption
  iintro HB
  ihave Hw := (MayWaits.elim (SemLoc.dma ws)) $$ Hmw
  iapply (wp_waitBatchO EC 𝒱 c bd none (hN 0) (n := 4) (u := 0) (by omega)) $$ [HB HO Hw]
  · isplitl [HB]; · iexact HB
    isplitl [HO] <;> iassumption
  iintro ⟨HB, HO⟩
  ihave Hw := (MayWaits.elim (SemLoc.dma ws)) $$ Hmw
  iapply (wp_waitBatchO EC 𝒱 c bd none (hN 1) (n := 4) (u := 0 + N) (by omega)) $$ [HB HO Hw]
  · isplitl [HB]; · iexact HB
    isplitl [HO] <;> iassumption
  iintro ⟨HB, HO⟩
  ihave Hw := (MayWaits.elim (SemLoc.dma ws)) $$ Hmw
  iapply (wp_waitBatchO EC 𝒱 c bd none (hN 2) (n := 4) (u := 0 + N + N) (by omega)) $$ [HB HO Hw]
  · isplitl [HB]; · iexact HB
    isplitl [HO] <;> iassumption
  iintro ⟨HB, HO⟩
  ihave Hw := (MayWaits.elim (SemLoc.dma ws)) $$ Hmw
  iapply (wp_waitBatchLastO EC 𝒱 c bd none (hN 3) hN0 (n := 4) (u := 0 + N + N + N) (by omega)) $$ [HB HO Hw]
  · isplitl [HB]; · iexact HB
    isplitl [HO] <;> iassumption
  iintro ⟨HD, Hs, HO⟩
  ihave HD := (Entails.of_eq (bigSep_sep' Finset.univ (fun b => ((ow b).view.loc c ↦[(ow b).view.set]{fullShare} g b : sProp 𝕄))
    (fun b => bw.view.loc c ↦[bw.view.set]{shareTok fullShare 4 b} fb))) $$ HD
  icases HD with ⟨Ho, Htoks⟩
  simp only [Finset.insert_eq_of_mem (Finset.mem_insert_self _ _)]
  iapply Hk
  isplitl [Hdrop Htoks Hrest]
  · iapply (pointsTo_split_subset (Finset.subset_univ bw.view.set)).2
    isplitl [Hdrop Htoks]
    · iapply (pointsTo_toks_join fullShare 4)
      isplitl [Hdrop] <;> iassumption
    iexact Hrest
  isplitl [Ho]; · iexact Ho
  isplitl [Hs] <;> iassumption

/-- What a thread owes, its recorded waits so far being those in `W` or on the copies' own index. -/
abbrev owesIn (O : CellTallies nD τ sig (HIx 1)) (W : Waits sig (HIx 1)) : sProp 𝕄 :=
  iprop(∃ W' : Waits sig (HIx 1), ⌜∀ p ∈ W', p ∈ W ∨ p.2 = none⌝ ∗ owes c O W')

/-- A whole chunk: the fetch, then the sending; batch `b`'s rows go from any contents to `g b`. -/
theorem wp_chunk (hs : 0 < s.numel) {rs ws : DmaSem sig} {hbw : DmaTarget.Typed (nD := nD) .hbm (.dma rs) (.here bw)}
    {how : ∀ b, DmaTarget.Typed (nD := nD) .vmem (.dma ws) (.here (ow b))}
    {k : PUnit → Prog (TpuEff nD τ sig (Elt F) Λ c.2) α} {Q : α → sProp 𝕄} {ft : Buf (Elt F) (tw.view.loc c)}
    {fo g : ∀ b, Buf (Elt F) ((ow b).view.loc c)} {N : ℕ} (hN : ∀ b, (ow b).view.dmaCredit = N)
    (hg : ∀ b, ∀ i ∈ (ow b).view.set, (ow b).view.write (Elt F) (fo b) (tw.view.read (Elt F) ft) Finset.univ i = g b i)
    {O : CellTallies nD τ sig (HIx 1)} {W : Waits sig (HIx 1)} :
    iprop((MayWaits c none O : sProp 𝕄) ∗ (tw.view.loc c ↦[tw.view.set]{fullShare} ft) ∗ (∃ fb, bw.view.loc c ↦{fullShare} fb)
          ∗ (bigSep Finset.univ fun b => (ow b).view.loc c ↦[(ow b).view.set]{fullShare} fo b)
          ∗ semVal (c, .dma rs) 0 ∗ semVal (c, .dma ws) 0 ∗ owesIn c O W)
      ⊢ iprop((iprop((tw.view.loc c ↦[tw.view.set]{fullShare} ft) ∗ (∃ fb, bw.view.loc c ↦{fullShare} fb)
              ∗ (bigSep Finset.univ fun b => (ow b).view.loc c ↦[(ow b).view.set]{fullShare} g b)
              ∗ semVal (c, .dma rs) 0 ∗ semVal (c, .dma ws) 0 ∗ owesIn c O W) -∗ wp frame (wpE defs 𝒱 c bd) Set.univ (k ⟨⟩) Q)
          -∗ wp frame (wpE defs 𝒱 c bd) Set.univ (fetch tw bw rs hbw fun _ => spread bw ow ws how k) Q) := by
  iintro ⟨#Hmw, Ht, ⟨%fb, Hb⟩, Ho, Hrs, Hws, ⟨%W', %hW', HO⟩⟩ Hk
  iapply (wp_fetch 𝒱 c bd hs) $$ [Ht Hb Hrs HO]
  · isplitr; · iexact Hmw
    isplitl [Ht]; · iexact Ht
    isplitl [Hb]; · iexact Hb
    isplitl [Hrs] <;> iassumption
  iintro ⟨Ht, Hb, Hrs, HO⟩
  iapply (wp_spread 𝒱 c bd (fo := fo) (g := g) hs hN (fun b i hi => by rw [View.read_write_univ]; exact hg b i hi)) $$ [Hb Ho Hws HO]
  · isplitr; · iexact Hmw
    isplitl [Hb]; · iexact Hb
    isplitl [Ho]; · iexact Ho
    isplitl [Hws] <;> iassumption
  iintro ⟨Hb, Ho, Hws, HO⟩
  iapply Hk
  isplitl [Ht]; · iexact Ht
  isplitl [Hb]; · iexists _; iexact Hb
  isplitl [Ho]; · iexact Ho
  isplitl [Hrs]; · iexact Hrs
  isplitl [Hws]; · iexact Hws
  iexists (insert (SemLoc.dma ws, none) (insert (SemLoc.dma rs, none) W'))
  isplitr
  · ipureintro
    intro p hp
    rcases Finset.mem_insert.mp hp with rfl | hp
    · exact .inr rfl
    rcases Finset.mem_insert.mp hp with rfl | hp
    · exact .inr rfl
    exact hW' p hp
  iexact HO

end Cert.Proof.Bcast

end
-- ==== Proof.Windows.lean ====
/-
  The windows a task copies, as sets of rows, and what it copies where. Task (core `c`, subcore `s`) owns the 256 table
  rows from `512 s + 256 c`, cut into five chunks of 56 rows (the last of 32); each chunk goes to the same rows of the
  four 8192-row batches of the flat output. The pieces partition both arrays, and every output row of a piece comes
  from the table row it is congruent to modulo 8192.
-/
module

public import proofs.«01_k».proof.Proof.Setup

@[expose] public section

noncomputable section

namespace Cert.Proof.Bcast

open Cert.KernelIdeal Cert.KernelIdeal.Gen
open Idealize.ShloMosaic

/-! ## The pieces -/

/-- The table rows of chunk `k` of task `(c, s)`. -/
def tabPiece (c : Fin 2) (s : Fin 16) (k : Fin 5) : Finset S8192x2048.Idx :=
  Finset.univ.filter fun i => 512 * s.val + 256 * c.val + 56 * k.val ≤ (i 0).val
    ∧ (i 0).val < 512 * s.val + 256 * c.val + min (56 * k.val + 56) 256

/-- The output rows of chunk `k` of task `(c, s)` in batch `b`. -/
def outPiece (c : Fin 2) (s : Fin 16) (k : Fin 5) (b : Fin 4) : Finset S32768x2048.Idx :=
  Finset.univ.filter fun i => 8192 * b.val + 512 * s.val + 256 * c.val + 56 * k.val ≤ (i 0).val
    ∧ (i 0).val < 8192 * b.val + 512 * s.val + 256 * c.val + min (56 * k.val + 56) 256

theorem mem_tabPiece {c : Fin 2} {s : Fin 16} {k : Fin 5} {i : S8192x2048.Idx} :
    i ∈ tabPiece c s k ↔ 512 * s.val + 256 * c.val + 56 * k.val ≤ (i 0).val
      ∧ (i 0).val < 512 * s.val + 256 * c.val + min (56 * k.val + 56) 256 := by
  simp [tabPiece]

theorem mem_outPiece {c : Fin 2} {s : Fin 16} {k : Fin 5} {b : Fin 4} {i : S32768x2048.Idx} :
    i ∈ outPiece c s k b ↔ 8192 * b.val + 512 * s.val + 256 * c.val + 56 * k.val ≤ (i 0).val
      ∧ (i 0).val < 8192 * b.val + 512 * s.val + 256 * c.val + min (56 * k.val + 56) 256 := by
  simp [outPiece]

/-- A row determines its piece: the digits of `8192 b + 512 s + 256 c + 56 k` are read off any row of the piece. -/
theorem digits_eq {r b b' s s' c c' k k' : ℕ} (hs : s < 16) (hs' : s' < 16) (hc : c < 2) (hc' : c' < 2) (hk : k < 5) (hk' : k' < 5)
    (h : 8192 * b + 512 * s + 256 * c + 56 * k ≤ r ∧ r < 8192 * b + 512 * s + 256 * c + min (56 * k + 56) 256)
    (h' : 8192 * b' + 512 * s' + 256 * c' + 56 * k' ≤ r ∧ r < 8192 * b' + 512 * s' + 256 * c' + min (56 * k' + 56) 256) :
    b = b' ∧ s = s' ∧ c = c' ∧ k = k' := by
  have l : r < 8192 * b + 512 * s + 256 * c + 256 := by omega
  have l' : r < 8192 * b' + 512 * s' + 256 * c' + 256 := by omega
  obtain rfl : b = b' := by omega
  obtain rfl : s = s' := by omega
  obtain rfl : c = c' := by omega
  exact ⟨rfl, rfl, rfl, by omega⟩

/-- The table's pieces, indexed by (core, subcore, chunk), are disjoint … -/
theorem tab_disjoint : ∀ t ∈ (Finset.univ : Finset (Fin 2 × Fin 16 × Fin 5)), ∀ t' ∈ (Finset.univ : Finset (Fin 2 × Fin 16 × Fin 5)),
    t ≠ t' → Disjoint (tabPiece t.1 t.2.1 t.2.2) (tabPiece t'.1 t'.2.1 t'.2.2) := by
  rintro ⟨c, s, k⟩ - ⟨c', s', k'⟩ - hne
  refine Finset.disjoint_left.mpr fun i h h' => hne ?_
  obtain ⟨-, hs, hc, hk⟩ := digits_eq (b := 0) (b' := 0) s.isLt s'.isLt c.isLt c'.isLt k.isLt k'.isLt
    (by simpa using mem_tabPiece.mp h) (by simpa using mem_tabPiece.mp h')
  exact Prod.ext (Fin.ext hc) (Prod.ext (Fin.ext hs) (Fin.ext hk))

/-- … and cover the table. -/
theorem tab_cover : (Finset.univ : Finset (Fin 2 × Fin 16 × Fin 5)).biUnion (fun t => tabPiece t.1 t.2.1 t.2.2) = Finset.univ := by
  ext i
  simp only [Finset.mem_biUnion, Finset.mem_univ, true_and, iff_true]
  have hi : (i 0).val < 8192 := (i 0).isLt
  refine ⟨(⟨(i 0).val / 256 % 2, by omega⟩, ⟨(i 0).val / 512, by omega⟩, ⟨(i 0).val % 256 / 56, by omega⟩), ?_⟩
  rw [mem_tabPiece]; dsimp only; omega

/-- The output's pieces, indexed by (core, subcore, chunk, batch), are disjoint … -/
theorem out_disjoint : ∀ t ∈ (Finset.univ : Finset (Fin 2 × Fin 16 × Fin 5 × Fin 4)), ∀ t' ∈ (Finset.univ : Finset (Fin 2 × Fin 16 × Fin 5 × Fin 4)),
    t ≠ t' → Disjoint (outPiece t.1 t.2.1 t.2.2.1 t.2.2.2) (outPiece t'.1 t'.2.1 t'.2.2.1 t'.2.2.2) := by
  rintro ⟨c, s, k, b⟩ - ⟨c', s', k', b'⟩ - hne
  refine Finset.disjoint_left.mpr fun i h h' => hne ?_
  obtain ⟨hb, hs, hc, hk⟩ := digits_eq s.isLt s'.isLt c.isLt c'.isLt k.isLt k'.isLt (mem_outPiece.mp h) (mem_outPiece.mp h')
  exact Prod.ext (Fin.ext hc) (Prod.ext (Fin.ext hs) (Prod.ext (Fin.ext hk) (Fin.ext hb)))

/-- … and cover the flat output. -/
theorem out_cover : (Finset.univ : Finset (Fin 2 × Fin 16 × Fin 5 × Fin 4)).biUnion (fun t => outPiece t.1 t.2.1 t.2.2.1 t.2.2.2) = Finset.univ := by
  ext i
  simp only [Finset.mem_biUnion, Finset.mem_univ, true_and, iff_true]
  have hi : (i 0).val < 32768 := (i 0).isLt
  refine ⟨(⟨(i 0).val / 256 % 2, by omega⟩, ⟨(i 0).val % 8192 / 512, by omega⟩, ⟨(i 0).val % 256 / 56, by omega⟩,
    ⟨(i 0).val / 8192, by omega⟩), ?_⟩
  rw [mem_outPiece]; dsimp only; omega

/-! ## The printed windows -/

/-- A task's SparseCore and subcore numbers, at the sizes the pieces are indexed by. -/
abbrev cL (L : grid0.Coords) : Fin 2 := Fin.cast (show grid0.bound 0 = 2 from rfl) (L 0)
abbrev sL (L : grid0.Coords) : Fin 16 := Fin.cast (show grid0.bound 1 = 16 from rfl) (L 1)

/-- The program's windows: chunk `r < 4` of the table and of batch `b` of the output, and the last chunk's. -/
abbrev tabFull (L : grid0.Coords) (r : Fin 4) : Memref sig .scVector .hbm S56x2048 .f32 :=
  tW.slice (Rect.unit (s := S8192x2048) (k0_off1 L (BitVec.ofNat 32 (56 * r.val))) S56x2048.size (k0_off1_inb L r)) (fun _ => rfl)
abbrev outFull (L : grid0.Coords) (r b : Fin 4) : Memref sig .scVector .hbm S56x2048 .f32 :=
  oW.slice (Rect.unit (s := S32768x2048) (k0_off2 L (BitVec.ofNat 32 (8192 * b.val)) (BitVec.ofNat 32 (56 * r.val))) S56x2048.size
    (k0_off2_inb L b r)) (fun _ => rfl)
abbrev tabTail (L : grid0.Coords) : Memref sig .scVector .hbm S32x2048 .f32 :=
  tW.slice (Rect.unit (s := S8192x2048) (k0_off3 L) S32x2048.size (k0_off3_inb L)) (fun _ => rfl)
abbrev outTail (L : grid0.Coords) (b : Fin 4) : Memref sig .scVector .hbm S32x2048 .f32 :=
  oW.slice (Rect.unit (s := S32768x2048) (k0_off4 L (BitVec.ofNat 32 (8192 * b.val))) S32x2048.size (k0_off4_inb L b)) (fun _ => rfl)
abbrev bufFull : Memref sig .scVector .vmem S56x2048 .f32 :=
  bW.slice (Rect.unit (s := S56x2048) ![0, 0] S56x2048.size inb_S56x2048_S56x2048_0_0) (fun _ => rfl)
abbrev bufTail : Memref sig .scVector .vmem S32x2048 .f32 :=
  bW.slice (Rect.unit (s := S56x2048) ![0, 0] S32x2048.size inb_S56x2048_S32x2048_0_0) (fun _ => rfl)

/-- The rows of a unit window from row `o` of `n` full rows. -/
theorem mem_rows {R n o : ℕ} {off : Fin 2 → ℕ} {inb : ∀ a, off a + (⟨2, ![n, 2048]⟩ : Shape).size a ≤ (⟨2, ![R, 2048]⟩ : Shape).size a}
    (h : off = ![o, 0]) (i : (⟨2, ![R, 2048]⟩ : Shape).Idx) :
    i ∈ (Rect.unit (s := ⟨2, ![R, 2048]⟩) off (⟨2, ![n, 2048]⟩ : Shape).size inb).set ↔ o ≤ (i 0).val ∧ (i 0).val < o + n := by
  subst h
  rw [Rect.mem_set_unit]
  constructor
  · intro h; exact h 0
  · intro h a
    match a with
    | 0 => exact h
    | 1 => exact ⟨Nat.zero_le _, by have : (i 1).val < 2048 := (i 1).isLt; show (i 1).val < 0 + 2048; omega⟩

theorem set_tabFull (L : grid0.Coords) (r : Fin 4) : (tabFull L r).view.set = tabPiece (cL L) (sL L) ⟨r.val, by omega⟩ := by
  refine (View.set_slice_whole _ _).trans (Finset.ext fun i => ?_)
  refine (mem_rows (k0_off1_eq L r) i).trans (Iff.trans ?_ mem_tabPiece.symm)
  simp only [Fin.val_cast]; omega
theorem set_outFull (L : grid0.Coords) (r b : Fin 4) : (outFull L r b).view.set = outPiece (cL L) (sL L) ⟨r.val, by omega⟩ b := by
  refine (View.set_slice_whole _ _).trans (Finset.ext fun i => ?_)
  refine (mem_rows (k0_off2_eq L b r) i).trans (Iff.trans ?_ mem_outPiece.symm)
  simp only [Fin.val_cast]; omega
theorem set_tabTail (L : grid0.Coords) : (tabTail L).view.set = tabPiece (cL L) (sL L) 4 := by
  refine (View.set_slice_whole _ _).trans (Finset.ext fun i => ?_)
  refine (mem_rows (k0_off3_eq L) i).trans (Iff.trans ?_ mem_tabPiece.symm)
  simp only [Fin.val_cast, show (4 : Fin 5).val = 4 from rfl]; omega
theorem set_outTail (L : grid0.Coords) (b : Fin 4) : (outTail L b).view.set = outPiece (cL L) (sL L) 4 b := by
  refine (View.set_slice_whole _ _).trans (Finset.ext fun i => ?_)
  refine (mem_rows (k0_off4_eq L b) i).trans (Iff.trans ?_ mem_outPiece.symm)
  simp only [Fin.val_cast, show (4 : Fin 5).val = 4 from rfl]; omega

/-! ## What the output ends as -/

/-- The table element an output element is a copy of: the row modulo 8192, the same column. -/
def srcIdx (i : S32768x2048.Idx) : S8192x2048.Idx := fun
  | 0 => ⟨(i 0).val % 8192, Nat.mod_lt _ (by decide)⟩
  | 1 => i 1

/-- The output at the end: every batch a copy of the table. -/
def bcast {α : Type} (t : S8192x2048.Idx → α) : S32768x2048.Idx → α := fun i => t (srcIdx i)

/-- A window's index placed in its array: the window's first row added. -/
theorem emb_rows {R n o : ℕ} {off : Fin 2 → ℕ} {inb : ∀ a, off a + (⟨2, ![n, 2048]⟩ : Shape).size a ≤ (⟨2, ![R, 2048]⟩ : Shape).size a}
    (h : off = ![o, 0]) (x : (⟨2, ![n, 2048]⟩ : Shape).Idx) :
    (((Rect.unit (s := ⟨2, ![R, 2048]⟩) off (⟨2, ![n, 2048]⟩ : Shape).size inb).emb x) 0).val = o + (x 0).val
      ∧ (((Rect.unit (s := ⟨2, ![R, 2048]⟩) off (⟨2, ![n, 2048]⟩ : Shape).size inb).emb x) 1).val = (x 1).val := by
  subst h
  constructor
  · show o + 1 * (x 0).val = _; omega
  · show 0 + 1 * (x 1).val = _; omega

theorem srcIdx_eq {i : S32768x2048.Idx} {j : S8192x2048.Idx} (h0 : (i 0).val % 8192 = (j 0).val) (h1 : (i 1).val = (j 1).val) :
    srcIdx i = j := by
  funext a
  match a with
  | 0 => exact Fin.ext h0
  | 1 => exact Fin.ext h1

/-- An element of an output window is the copy of the table window's element at the same place. -/
theorem src_full (L : grid0.Coords) (r b : Fin 4) (x : S56x2048.Idx) : srcIdx ((outFull L r b).view.emb x) = (tabFull L r).view.emb x := by
  obtain ⟨o0, o1⟩ := emb_rows (R := 32768) (n := 56) (inb := k0_off2_inb L b r) (k0_off2_eq L b r) x
  obtain ⟨t0, t1⟩ := emb_rows (R := 8192) (n := 56) (inb := k0_off1_inb L r) (k0_off1_eq L r) x
  have : (L 0).val < 2 := (L 0).isLt
  have : (L 1).val < 16 := (L 1).isLt
  have : (x 0).val < 56 := (x 0).isLt
  exact srcIdx_eq ((congrArg (· % 8192) o0).trans (Eq.trans (by omega) t0.symm)) (o1.trans t1.symm)
theorem src_tail (L : grid0.Coords) (b : Fin 4) (x : S32x2048.Idx) : srcIdx ((outTail L b).view.emb x) = (tabTail L).view.emb x := by
  obtain ⟨o0, o1⟩ := emb_rows (R := 32768) (n := 32) (inb := k0_off4_inb L b) (k0_off4_eq L b) x
  obtain ⟨t0, t1⟩ := emb_rows (R := 8192) (n := 32) (inb := k0_off3_inb L) (k0_off3_eq L) x
  have : (L 0).val < 2 := (L 0).isLt
  have : (L 1).val < 16 := (L 1).isLt
  have : (x 0).val < 32 := (x 0).isLt
  exact srcIdx_eq ((congrArg (· % 8192) o0).trans (Eq.trans (by omega) t0.symm)) (o1.trans t1.symm)

end Cert.Proof.Bcast

end
-- ==== Proof.Body.lean ====
/-
  The printed body of a task is five chunks in a row: four of 56 rows and one of 32.
-/
module

public import proofs.«01_k».proof.Proof.Chunk
public import proofs.«01_k».proof.Proof.Windows

@[expose] public section

noncomputable section

namespace Cert.Proof.Bcast

open Cert.KernelIdeal Cert.KernelIdeal.Gen
open Idealize.ShloMosaic Idealize.SL.Sem

variable {F : FTy → Type} [FloatOps F]

/-- A task's body: the printed function at the table, the output and the scratch. -/
abbrev body (L : grid0.Coords) : Prog (TpuEff nD τ sig (Elt F) Λ₀ (.scVector (cV L) (jV L))) PUnit :=
  cc0__bcast_rows L tW (Memref.isWhole_whole _) oW (Memref.isWhole_whole _) bW (Memref.isWhole_whole _) cc0_scratch1 cc0_scratch2 cc0_scratch3 cc0_scratch4

/-- One 56-row chunk, then `k`. -/
abbrev chunkFull (L : grid0.Coords) (r : Fin 4) (k : PUnit → Prog (TpuEff nD τ sig (Elt F) Λ₀ (.scVector (cV L) (jV L))) PUnit) :
    Prog (TpuEff nD τ sig (Elt F) Λ₀ (.scVector (cV L) (jV L))) PUnit :=
  fetch (p := .scVector (cV L) (jV L)) (tabFull L r) bufFull cc0_scratch1.sem ⟨Or.inl rfl, trivial⟩ fun _ =>
    spread (p := .scVector (cV L) (jV L)) bufFull (outFull L r) cc0_scratch2.sem (fun _ => ⟨Or.inl rfl, trivial⟩) k

/-- The 32-row chunk, then `k`. -/
abbrev chunkTail (L : grid0.Coords) (k : PUnit → Prog (TpuEff nD τ sig (Elt F) Λ₀ (.scVector (cV L) (jV L))) PUnit) :
    Prog (TpuEff nD τ sig (Elt F) Λ₀ (.scVector (cV L) (jV L))) PUnit :=
  fetch (p := .scVector (cV L) (jV L)) (tabTail L) bufTail cc0_scratch3.sem ⟨Or.inl rfl, trivial⟩ fun _ =>
    spread (p := .scVector (cV L) (jV L)) bufTail (outTail L) cc0_scratch4.sem (fun _ => ⟨Or.inl rfl, trivial⟩) k

theorem body_eq (L : grid0.Coords) :
    (body L : Prog (TpuEff nD τ sig (Elt F) Λ₀ (.scVector (cV L) (jV L))) PUnit)
      = chunkFull L 0 fun _ => chunkFull L 1 fun _ => chunkFull L 2 fun _ => chunkFull L 3 fun _ => chunkTail L fun _ => .ret ⟨⟩ := by
  unfold body
  simp only [cc0__bcast_rows_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    cc0__bcast_rows_skel, k0_part1_skel, k0_part2_skel, k0_part3_skel, k0_part4_skel, k0_part5_skel, k0_part6_skel, k0_part7_skel,
    k0_part8_skel, k0_part9_skel, k0_part10_skel, Prog.lift, Prog.bind_op, Prog.bind_ret, Prog.pure_eq_ret]
  rfl

end Cert.Proof.Bcast

end
-- ==== Proof.Tile.lean ====
/-
  One task at a symbolic (SparseCore, subcore) pair: from its rows of the table and of the output, at any contents of the
  output, to the same rows with the output's at the table's values.
-/
module

public import proofs.«01_k».proof.Proof.Body

@[expose] public section

noncomputable section

namespace Cert.Proof.Bcast

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## What a chunk and a task hold -/

/-- Chunk `k` of task `(c, s)`: its table rows at `t`, its rows of the four batches at `f`. -/
abbrev piecePts (d : Dev nD) (c : Fin 2) (s : Fin 16) (k : Fin 5) (t : Buf (Elt F) (tLoc d)) (f : Buf (Elt F) (oLoc d)) : sProp 𝕄 :=
  iprop((tLoc d ↦[tabPiece c s k]{fullShare} t) ∗ bigSep Finset.univ fun b => oLoc d ↦[outPiece c s k b]{fullShare} f)

/-- Task `(c, s)`: its five chunks. -/
abbrev taskPts (d : Dev nD) (c : Fin 2) (s : Fin 16) (t : Buf (Elt F) (tLoc d)) (f : Buf (Elt F) (oLoc d)) : sProp 𝕄 :=
  bigSep Finset.univ fun k => piecePts d c s k t f

theorem taskPts_eq (d : Dev nD) (c : Fin 2) (s : Fin 16) (t : Buf (Elt F) (tLoc d)) (f : Buf (Elt F) (oLoc d)) :
    (taskPts d c s t f : sProp 𝕄)
      = iprop(piecePts d c s 0 t f ∗ piecePts d c s 1 t f ∗ piecePts d c s 2 t f ∗ piecePts d c s 3 t f ∗ piecePts d c s 4 t f) :=
  bigSep_univ_eq_bigSepL [0, 1, 2, 3, 4] (by decide) (by decide) _

variable [FloatOps F] (d : Dev nD) (L : grid0.Coords)

abbrev rF : GSem nD τ sig := (thr d L, .dma cc0_scratch1.sem)
abbrev wF : GSem nD τ sig := (thr d L, .dma cc0_scratch2.sem)
abbrev rT : GSem nD τ sig := (thr d L, .dma cc0_scratch3.sem)
abbrev wT : GSem nD τ sig := (thr d L, .dma cc0_scratch4.sem)

/-- What a task holds while it runs, beside its chunks: leave to wait, the staging scratch at some contents, what it owes. -/
abbrev held (O : CellTallies nD τ sig (HIx 1)) (W : Waits sig (HIx 1)) : sProp 𝕄 :=
  iprop((∃ fb, (thr d L).loc cc0_scratch0 ↦{fullShare} fb) ∗ owesIn (thr d L) O W)

/-! ## A chunk -/

omit [FloatOps F] in
theorem piecePts_full (r : Fin 4) (t : Buf (Elt F) (tLoc d)) (f : Buf (Elt F) (oLoc d)) :
    (piecePts d (cL L) (sL L) ⟨r.val, by omega⟩ t f : sProp 𝕄)
      = iprop(((tabFull L r).view.loc (thr d L) ↦[(tabFull L r).view.set]{fullShare} t)
          ∗ bigSep Finset.univ fun b => (outFull L r b).view.loc (thr d L) ↦[(outFull L r b).view.set]{fullShare} f) := by
  exact congrArg₂ (fun A B : sProp 𝕄 => iprop(A ∗ B)) (by rw [set_tabFull]) (bigSep_congr fun b _ => by rw [set_outFull])

omit [FloatOps F] in
theorem piecePts_tail (t : Buf (Elt F) (tLoc d)) (f : Buf (Elt F) (oLoc d)) :
    (piecePts d (cL L) (sL L) 4 t f : sProp 𝕄)
      = iprop(((tabTail L).view.loc (thr d L) ↦[(tabTail L).view.set]{fullShare} t)
          ∗ bigSep Finset.univ fun b => (outTail L b).view.loc (thr d L) ↦[(outTail L b).view.set]{fullShare} f) := by
  exact congrArg₂ (fun A B : sProp 𝕄 => iprop(A ∗ B)) (by rw [set_tabTail]) (bigSep_congr fun b _ => by rw [set_outTail])

omit [FloatOps F] in
/-- What a copy of a 56-row table window writes in a batch is the table's value there. -/
theorem lands_full (r b : Fin 4) (t : Buf (Elt F) (tLoc d)) (f : Buf (Elt F) (oLoc d)) :
    ∀ i ∈ (outFull L r b).view.set,
      (outFull L r b).view.write (Elt F) f ((tabFull L r).view.read (Elt F) t) Finset.univ i = (bcast t : Buf (Elt F) (oLoc d)) i := by
  intro i hi
  obtain ⟨x, -, rfl⟩ := Finset.mem_map.mp hi
  refine (View.write_emb_of_mem _ _ (Finset.mem_univ x)).trans ((cast_eq _ _).trans (((View.read_apply _ _).trans (cast_eq _ _)).trans ?_))
  exact congrArg t (src_full L r b x).symm

omit [FloatOps F] in
/-- The same of the 32-row window. -/
theorem lands_tail (b : Fin 4) (t : Buf (Elt F) (tLoc d)) (f : Buf (Elt F) (oLoc d)) :
    ∀ i ∈ (outTail L b).view.set,
      (outTail L b).view.write (Elt F) f ((tabTail L).view.read (Elt F) t) Finset.univ i = (bcast t : Buf (Elt F) (oLoc d)) i := by
  intro i hi
  obtain ⟨x, -, rfl⟩ := Finset.mem_map.mp hi
  refine (View.write_emb_of_mem _ _ (Finset.mem_univ x)).trans ((cast_eq _ _).trans (((View.read_apply _ _).trans (cast_eq _ _)).trans ?_))
  exact congrArg t (src_tail L b x).symm

variable {k : PUnit → Prog (TpuEff nD τ sig (Elt F) Λ₀ (.scVector (cV L) (jV L))) PUnit}
  {t : Buf (Elt F) (tLoc d)} {f : Buf (Elt F) (oLoc d)} {O : CellTallies nD τ sig (HIx 1)} {W : Waits sig (HIx 1)}

/-- A 56-row chunk: its rows of the output end at the table's values, everything else as before. -/
theorem wp_full {Q : PUnit → sProp 𝕄} (r : Fin 4) :
    iprop((MayWaits (thr d L) none O : sProp 𝕄) ∗ piecePts d (cL L) (sL L) ⟨r.val, by omega⟩ t f ∗ semVal (rF d L) 0 ∗ semVal (wF d L) 0 ∗ held d L O W)
      ⊢ iprop((iprop(piecePts d (cL L) (sL L) ⟨r.val, by omega⟩ t (bcast t) ∗ semVal (rF d L) 0 ∗ semVal (wF d L) 0 ∗ held d L O W)
            -∗ wp frame (wpE (defs₀ (F := F)) 𝒱₀ (thr d L) none) Set.univ (k ⟨⟩) Q)
          -∗ wp frame (wpE (defs₀ (F := F)) 𝒱₀ (thr d L) none) Set.univ (chunkFull L r k) Q) := by
  rw [piecePts_full, piecePts_full]
  iintro ⟨#Hmw, ⟨Ht, Ho⟩, Hr, Hw, Hb, HO⟩ Hk
  iapply (wp_chunk 𝒱₀ (thr d L) none (tw := tabFull L r) (bw := bufFull) (ow := outFull L r) (fo := fun _ => f) (g := fun _ => bcast t)
    (by decide) (fun _ => rfl) (fun b => lands_full d L r b t f) (W := W)) $$ [Ht Ho Hr Hw Hb HO]
  · isplitr; · iexact Hmw
    isplitl [Ht]; · iexact Ht
    isplitl [Hb]; · iexact Hb
    isplitl [Ho]; · iexact Ho
    isplitl [Hr]; · iexact Hr
    isplitl [Hw] <;> iassumption
  iintro ⟨Ht, Hb, Ho, Hr, Hw, HO⟩
  iapply Hk
  isplitl [Ht Ho]; · isplitl [Ht] <;> iassumption
  isplitl [Hr]; · iexact Hr
  isplitl [Hw]; · iexact Hw
  isplitl [Hb] <;> iassumption

/-- The 32-row chunk, the same. -/
theorem wp_tail {Q : PUnit → sProp 𝕄} :
    iprop((MayWaits (thr d L) none O : sProp 𝕄) ∗ piecePts d (cL L) (sL L) 4 t f ∗ semVal (rT d L) 0 ∗ semVal (wT d L) 0 ∗ held d L O W)
      ⊢ iprop((iprop(piecePts d (cL L) (sL L) 4 t (bcast t) ∗ semVal (rT d L) 0 ∗ semVal (wT d L) 0 ∗ held d L O W)
            -∗ wp frame (wpE (defs₀ (F := F)) 𝒱₀ (thr d L) none) Set.univ (k ⟨⟩) Q)
          -∗ wp frame (wpE (defs₀ (F := F)) 𝒱₀ (thr d L) none) Set.univ (chunkTail L k) Q) := by
  rw [piecePts_tail, piecePts_tail]
  iintro ⟨#Hmw, ⟨Ht, Ho⟩, Hr, Hw, Hb, HO⟩ Hk
  iapply (wp_chunk 𝒱₀ (thr d L) none (tw := tabTail L) (bw := bufTail) (ow := outTail L) (fo := fun _ => f) (g := fun _ => bcast t)
    (by decide) (fun _ => rfl) (fun b => lands_tail d L b t f) (W := W)) $$ [Ht Ho Hr Hw Hb HO]
  · isplitr; · iexact Hmw
    isplitl [Ht]; · iexact Ht
    isplitl [Hb]; · iexact Hb
    isplitl [Ho]; · iexact Ho
    isplitl [Hr]; · iexact Hr
    isplitl [Hw] <;> iassumption
  iintro ⟨Ht, Hb, Ho, Hr, Hw, HO⟩
  iapply Hk
  isplitl [Ht Ho]; · isplitl [Ht] <;> iassumption
  isplitl [Hr]; · iexact Hr
  isplitl [Hw]; · iexact Hw
  isplitl [Hb] <;> iassumption

/-! ## A subcore's own scratch and semaphores -/

omit [FloatOps F] in
/-- The four DMA semaphores are among the subcore's own: they are them, and the rest. -/
theorem ownSems0_V :
    (ownSems0 (thr d L) : sProp 𝕄)
      = iprop(semVal (rF d L) 0 ∗ semVal (wF d L) 0 ∗ semVal (rT d L) 0 ∗ semVal (wT d L) 0
          ∗ bigSep (((((ownCells (thr d L)).erase (rF d L)).erase (wF d L)).erase (rT d L)).erase (wT d L)) fun g => semVal g 0) := by
  have own : ∀ x : DmaSem sig, (SemLoc.dma x : SemLoc sig).isScoped .scVector = true → ((thr d L, .dma x) : GSem nD τ sig) ∈ ownCells (thr d L) :=
    fun x hx => mem_ownCells.mpr ⟨rfl, hx⟩
  have ne : ∀ x y : DmaSem sig, x ≠ y → ((thr d L, .dma x) : GSem nD τ sig) ≠ (thr d L, .dma y) :=
    fun x y h e => h (SemLoc.dma.inj (Prod.mk.inj e).2)
  unfold SparseCore.Cfg.ownSems0
  rw [SparseCore.bigSep_erase' (own cc0_scratch1.sem (by decide)),
    SparseCore.bigSep_erase' (Finset.mem_erase.mpr ⟨ne _ _ (by decide), own cc0_scratch2.sem (by decide)⟩),
    SparseCore.bigSep_erase' (Finset.mem_erase.mpr ⟨ne _ _ (by decide), Finset.mem_erase.mpr ⟨ne _ _ (by decide), own cc0_scratch3.sem (by decide)⟩⟩),
    SparseCore.bigSep_erase' (Finset.mem_erase.mpr ⟨ne _ _ (by decide), Finset.mem_erase.mpr ⟨ne _ _ (by decide),
      Finset.mem_erase.mpr ⟨ne _ _ (by decide), own cc0_scratch4.sem (by decide)⟩⟩⟩)]

omit [FloatOps F] in
/-- The staging scratch is among the subcore's own buffers: it is it, at some contents, and the rest. -/
theorem ownBufs_V :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The task -/

theorem tile_body (t : Buf (Elt F) (tLoc d)) (f : Buf (Elt F) (oLoc d)) (hF : (K (F := F)).Facts) (O : CellTallies nD τ sig (HIx 1))
    (W : Waits sig (HIx 1)) (hO : ∀ g, O g none = 0) :
    iprop(levAts (K (F := F)).L (K (F := F)).lev ∗ emp ∗ taskPts d (cL L) (sL L) t f
        ∗ scopedBufs (thr d L) ∗ scopedSems0 (thr d L) ∗ owes (thr d L) O W)
      ⊢ wp frame (wpE (defs₀ (F := F)) 𝒱₀ (thr d L) none) Set.univ (body L)
          fun _ => iprop((taskPts d (cL L) (sL L) t (bcast t) : sProp 𝕄) ∗ scopedBufs (thr d L) ∗ scopedSems0 (thr d L)
            ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), ownSems0_V, ownBufs_V,
    taskPts_eq, taskPts_eq]
  iintro ⟨Hlv, -, ⟨H0, H1, H2, H3, H4⟩, ⟨Hb, Hbufs⟩, ⟨HrF, HwF, HrT, HwT, Hsems⟩, HO⟩
  ihave #Hmw := ((K (F := F)).mayWaits_none (thr := thr d L) hO) $$ Hlv
  ihave Hh := (show iprop((∃ fb, (thr d L).loc cc0_scratch0 ↦{fullShare} fb) ∗ owes (thr d L) O W) ⊢ (held d L O W : sProp 𝕄) from by
    iintro ⟨Hb, HO⟩
    isplitl [Hb]; · iexact Hb
    iexists W
    isplitr; · ipureintro; exact fun p hp => .inl hp
    iexact HO) $$ [Hb HO]
  · isplitl [Hb] <;> iassumption
  iapply (wp_full d L 0 (W := W)) $$ [H0 HrF HwF Hh]
  · isplitr; · iexact Hmw
    isplitl [H0]; · iexact H0
    isplitl [HrF]; · iexact HrF
    isplitl [HwF] <;> iassumption
  iintro ⟨H0, HrF, HwF, Hh⟩
  iapply (wp_full d L 1 (W := W)) $$ [H1 HrF HwF Hh]
  · isplitr; · iexact Hmw
    isplitl [H1]; · iexact H1
    isplitl [HrF]; · iexact HrF
    isplitl [HwF] <;> iassumption
  iintro ⟨H1, HrF, HwF, Hh⟩
  iapply (wp_full d L 2 (W := W)) $$ [H2 HrF HwF Hh]
  · isplitr; · iexact Hmw
    isplitl [H2]; · iexact H2
    isplitl [HrF]; · iexact HrF
    isplitl [HwF] <;> iassumption
  iintro ⟨H2, HrF, HwF, Hh⟩
  iapply (wp_full d L 3 (W := W)) $$ [H3 HrF HwF Hh]
  · isplitr; · iexact Hmw
    isplitl [H3]; · iexact H3
    isplitl [HrF]; · iexact HrF
    isplitl [HwF] <;> iassumption
  iintro ⟨H3, HrF, HwF, Hh⟩
  iapply (wp_tail d L (W := W)) $$ [H4 HrT HwT Hh]
  · isplitr; · iexact Hmw
    isplitl [H4]; · iexact H4
    isplitl [HrT]; · iexact HrT
    isplitl [HwT] <;> iassumption
  iintro ⟨H4, HrT, HwT, ⟨Hb, HO⟩⟩
  rw [wp_ret]; imodintro
  isplitl [H0 H1 H2 H3 H4]
  · isplitl [H0]; · iexact H0
    isplitl [H1]; · iexact H1
    isplitl [H2]; · iexact H2
    isplitl [H3]; · iexact H3
    iexact H4
  isplitl [Hb Hbufs]
  · isplitl [Hb] <;> iassumption
  isplitl [HrF HwF HrT HwT Hsems]
  · isplitl [HrF]; · iexact HrF
    isplitl [HwF]; · iexact HwF
    isplitl [HrT]; · iexact HrT
    isplitl [HwT] <;> iassumption
  iexact HO

end Cert.Proof.Bcast

end
-- ==== Proof.Launch.lean ====
/-
  What the launch hands a SparseCore and a SparseCore hands its subcores: the chunks of the table and of the flat output,
  dealt over the (SparseCore, subcore) pairs, the output at the launch contents on the way out and at the table's values
  on the way back.
-/
module

public import proofs.«01_k».proof.Proof.Tile

@[expose] public section

noncomputable section

namespace Cert.Proof.Bcast

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem nCore_zero : (K (F := F)).nCore 0 = 2 := rfl
theorem nSub_zero : (K (F := F)).nSub 0 = 16 := rfl

/-! ## The arrays as the tasks' chunks -/

/-- SparseCore `c`: its sixteen tasks. -/
abbrev corePts (d : Dev nD) (c : Fin 2) (t : Buf (Elt F) (tLoc d)) (f : Buf (Elt F) (oLoc d)) : sProp 𝕄 :=
  bigSep Finset.univ fun s : Fin 16 => taskPts d c s t f

/-- The whole table is the chunks' table rows. -/
theorem tab_pieces (d : Dev nD) (t : Buf (Elt F) (tLoc d)) :
    (iprop(tLoc d ↦{fullShare} t) : sProp 𝕄) = bigSep Finset.univ fun c : Fin 2 => bigSep Finset.univ fun s : Fin 16 =>
      bigSep Finset.univ fun k : Fin 5 => iprop(tLoc d ↦[tabPiece c s k]{fullShare} t) := by
  have h := pointsTo_biUnion (Ix := HIx 1) (Val := Elt F) (Name := ℕ) (U := UU) (Lvl := ℕ) (ℓ := tLoc d) (q := fullShare) (f := t)
    Finset.univ (fun x : Fin 2 × Fin 16 × Fin 5 => tabPiece x.1 x.2.1 x.2.2) tab_disjoint
  rw [tab_cover] at h
  refine h.trans ?_
  simp only [← Finset.univ_product_univ, SparseCore.bigSep_product]

/-- The whole output is the chunks' output rows. -/
theorem out_pieces (d : Dev nD) (f : Buf (Elt F) (oLoc d)) :
    (iprop(oLoc d ↦{fullShare} f) : sProp 𝕄) = bigSep Finset.univ fun c : Fin 2 => bigSep Finset.univ fun s : Fin 16 =>
      bigSep Finset.univ fun k : Fin 5 => bigSep Finset.univ fun b : Fin 4 => iprop(oLoc d ↦[outPiece c s k b]{fullShare} f) := by
  have h := pointsTo_biUnion (Ix := HIx 1) (Val := Elt F) (Name := ℕ) (U := UU) (Lvl := ℕ) (ℓ := oLoc d) (q := fullShare) (f := f)
    Finset.univ (fun x : Fin 2 × Fin 16 × Fin 5 × Fin 4 => outPiece x.1 x.2.1 x.2.2.1 x.2.2.2) out_disjoint
  rw [out_cover] at h
  refine h.trans ?_
  simp only [← Finset.univ_product_univ, SparseCore.bigSep_product]

/-- Both arrays whole are the two SparseCores' shares. -/
theorem cores_eq (d : Dev nD) (t : Buf (Elt F) (tLoc d)) (f : Buf (Elt F) (oLoc d)) :
    (bigSep Finset.univ fun c : Fin 2 => corePts d c t f : sProp 𝕄) = iprop((tLoc d ↦{fullShare} t) ∗ (oLoc d ↦{fullShare} f)) := by
  rw [tab_pieces, out_pieces, ← bigSep_sep']
  refine bigSep_congr fun c _ => ?_
  rw [← bigSep_sep']
  refine bigSep_congr fun s _ => ?_
  rw [← bigSep_sep']

/-! ## The payloads -/

variable (m : (ℓ : Loc nD τ sig) → Buf (Elt F) ℓ)

/-- A SparseCore and a task go out with the output as launched and come back with it at the table's values. -/
def P : (K (F := F)).Pay (nD := nD) (Val := Elt F) (Name := ℕ) (U := UU) where
  st := fun q d c => match q with
    | 0 => corePts d (Fin.cast nCore_zero c) (m (tLoc d)) (m (oLoc d))
  dn := fun q d c => match q with
    | 0 => corePts d (Fin.cast nCore_zero c) (m (tLoc d)) (bcast (m (tLoc d)))
  go := fun q d c i => match q with
    | 0 => taskPts d (Fin.cast nCore_zero c) (Fin.cast nSub_zero i) (m (tLoc d)) (m (oLoc d))
  td := fun q d c i => match q with
    | 0 => taskPts d (Fin.cast nCore_zero c) (Fin.cast nSub_zero i) (m (tLoc d)) (bcast (m (tLoc d)))
  x := fun _ _ => iprop(emp)

omit m in
theorem storable_piece (d : Dev nD) (c : Fin 2) (s : Fin 16) (k : Fin 5) (t : Buf (Elt F) (tLoc d)) (f : Buf (Elt F) (oLoc d)) :
    BI.Storable (upEmb : UEmb _ 𝕄) (piecePts d c s k t f) := inferInstance

omit m in
theorem storable_task (d : Dev nD) (c : Fin 2) (s : Fin 16) (t : Buf (Elt F) (tLoc d)) (f : Buf (Elt F) (oLoc d)) :
    BI.Storable (upEmb : UEmb _ 𝕄) (taskPts d c s t f) :=
  have := fun k => storable_piece d c s k t f
  inferInstanceAs (BI.Storable _ (bigSep Finset.univ fun k => piecePts d c s k t f))

omit m in
theorem storable_core (d : Dev nD) (c : Fin 2) (t : Buf (Elt F) (tLoc d)) (f : Buf (Elt F) (oLoc d)) :
    BI.Storable (upEmb : UEmb _ 𝕄) (corePts d c t f) :=
  have := fun s => storable_task d c s t f
  inferInstanceAs (BI.Storable _ (bigSep Finset.univ fun s => taskPts d c s t f))

theorem st_eq (d : Dev nD) (c : Fin ((K (F := F)).nCore 0)) :
    (P m).st 0 d c = corePts d (Fin.cast nCore_zero c) (m (tLoc d)) (m (oLoc d)) := rfl
theorem dn_eq (d : Dev nD) (c : Fin ((K (F := F)).nCore 0)) :
    (P m).dn 0 d c = corePts d (Fin.cast nCore_zero c) (m (tLoc d)) (bcast (m (tLoc d))) := rfl
theorem go_eq (d : Dev nD) (c : Fin ((K (F := F)).nCore 0)) (i : Fin ((K (F := F)).nSub 0)) :
    (P m).go 0 d c i = taskPts d (Fin.cast nCore_zero c) (Fin.cast nSub_zero i) (m (tLoc d)) (m (oLoc d)) := rfl
theorem td_eq (d : Dev nD) (c : Fin ((K (F := F)).nCore 0)) (i : Fin ((K (F := F)).nSub 0)) :
    (P m).td 0 d c i = taskPts d (Fin.cast nCore_zero c) (Fin.cast nSub_zero i) (m (tLoc d)) (bcast (m (tLoc d))) := rfl

theorem st_storable (q : Fin 1) (d : Dev nD) (c : Fin ((K (F := F)).nCore q)) : BI.Storable (upEmb : UEmb _ 𝕄) ((P m).st q d c) := by
  match q with
  | 0 => rw [st_eq]; exact storable_core ..
theorem dn_storable (q : Fin 1) (d : Dev nD) (c : Fin ((K (F := F)).nCore q)) : BI.Storable (upEmb : UEmb _ 𝕄) ((P m).dn q d c) := by
  match q with
  | 0 => rw [dn_eq]; exact storable_core ..
theorem go_storable (q : Fin 1) (d : Dev nD) (c : Fin ((K (F := F)).nCore q)) (i : Fin ((K (F := F)).nSub q)) :
    BI.Storable (upEmb : UEmb _ 𝕄) ((P m).go q d c i) := by
  match q with
  | 0 => rw [go_eq]; exact storable_task ..
theorem td_storable (q : Fin 1) (d : Dev nD) (c : Fin ((K (F := F)).nCore q)) (i : Fin ((K (F := F)).nSub q)) :
    BI.Storable (upEmb : UEmb _ 𝕄) ((P m).td q d c i) := by
  match q with
  | 0 => rw [td_eq]; exact storable_task ..

instance P_storable : (P (F := F) m).IsStorable :=
  ⟨st_storable m, dn_storable m, go_storable m, td_storable m⟩

/-! ## The task obligation -/

/-- The grid coordinates of a (SparseCore, subcore) pair. -/
abbrev coordsV (c : Fin (grid0.bound 0)) (s : Fin (grid0.bound 1)) : grid0.Coords
  | 0 => c
  | 1 => s
  | ⟨_ + 2, h⟩ => absurd h (Nat.not_lt.2 (Nat.le_add_left _ _))

variable [FloatOps F]

theorem defs₀_vector (c : Fin τ.nSC) (s : Fin τ.nSub) :
    defs₀ (F := F) (.scVector c s) 0 () = SparseCore.onTile hcore0 hsub0 (fun c s => body (coordsV c s)) ⟨⟩ c s := rfl

omit [FloatOps F] in
/-- What a task's waits added, as the obligation states it. -/
theorem obl_post {thr : Thread nD τ} {O : CellTallies nD τ sig (HIx 1)} {W : Waits sig (HIx 1)} {own : HIx 1 → Prop} {A B C : sProp 𝕄} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ own p.2⌝ ∗ owes thr O W') : sProp 𝕄) := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  rw [go_eq, td_eq]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := (tile_body d (coordsV ⟨_, hc.1⟩ ⟨_, hc.2⟩) (m (tLoc d)) (m (oLoc d)) hF O W hO).trans
    (wp_mono frame _ _ fun _ => obl_post (own := SparseCore.Cfg.Blocks.blk 0))
  have hL : cL (coordsV ⟨_, hc.1⟩ ⟨_, hc.2⟩) = Fin.cast nCore_zero c := Fin.ext rfl
  have hs : sL (coordsV ⟨_, hc.1⟩ ⟨_, hc.2⟩) = Fin.cast nSub_zero i := Fin.ext rfl
  rw [hL, hs] at h
  exact h

/-! ## A SparseCore's sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m) 0 := by
  intro d c
  show corePts d (Fin.cast nCore_zero c) (m (tLoc d)) (m (oLoc d))
    ⊢ |={Set.univ}=> iprop((bigSep Finset.univ fun i : Fin ((K (F := F)).nSub 0) =>
          taskPts d (Fin.cast nCore_zero c) (Fin.cast nSub_zero i) (m (tLoc d)) (m (oLoc d)))
      ∗ ((bigSep Finset.univ fun i : Fin ((K (F := F)).nSub 0) =>
          taskPts d (Fin.cast nCore_zero c) (Fin.cast nSub_zero i) (m (tLoc d)) (bcast (m (tLoc d))))
        -∗ corePts d (Fin.cast nCore_zero c) (m (tLoc d)) (bcast (m (tLoc d)))))
  rw [bigSep_tasks fun s => taskPts d (Fin.cast nCore_zero c) s (m (tLoc d)) (m (oLoc d)),
    bigSep_tasks fun s => taskPts d (Fin.cast nCore_zero c) s (m (tLoc d)) (bcast (m (tLoc d)))]
  iintro H
  imodintro
  isplitl [H]; · iexact H
  iintro H; iexact H

end Cert.Proof.Bcast

end
-- ==== Proof.Value.lean ====
/-
  The result as plain mathematics: entry `(b, s, e)` is entry `(s, e)` of the table. The flat output at the table's values,
  regrouped by batch, is that.
-/
module

public import proofs.«01_k».proof.Proof.Windows

@[expose] public section

noncomputable section

namespace Cert.Proof.Bcast

open Cert.KernelIdeal Cert.KernelIdeal.Gen
open Idealize.ShloMosaic

/-- The table's row and column a result's entry holds. -/
def resIdx (i : S4x8192x2048.Idx) : S8192x2048.Idx := fun
  | 0 => i 1
  | 1 => i 2

/-- The table repeated over the batches. -/
def res {α : Type} (t : S8192x2048.Idx → α) : S4x8192x2048.Idx → α := fun i => t (resIdx i)

/-- The flat row of a result's entry. -/
def flatIdx (i : S4x8192x2048.Idx) : S32768x2048.Idx := fun
  | 0 => ⟨(i 0).val * 8192 + (i 1).val, by have h0 : (i 0).val < 4 := (i 0).isLt; have h1 : (i 1).val < 8192 := (i 1).isLt; show _ < 32768; omega⟩
  | 1 => i 2

theorem reshape_flat (h : S4x8192x2048.numel = S32768x2048.numel) (i : S4x8192x2048.Idx) : Shape.reshapeEquiv h i = flatIdx i := by
  refine Shape.reshapeEquiv_eq_of_rowMajor h ?_
  rw [Shape.rowMajor_val_two, Shape.rowMajor_val_three]
  show ((i 0).val * 8192 + (i 1).val) * 2048 + (i 2).val = _
  rfl

theorem reshape_bcast {α : Type} (t : S8192x2048.Idx → α) (h : S32768x2048.ShapeCasts S4x8192x2048) :
    shapeCast S4x8192x2048 (bcast t) h = res t := by
  funext i
  show t (srcIdx (Shape.reshapeEquiv h i)) = t (resIdx i)
  rw [reshape_flat, srcIdx_eq (j := resIdx i) _ rfl]
  show ((i 0).val * 8192 + (i 1).val) % 8192 = (i 1).val
  have h1 : (i 1).val < 8192 := (i 1).isLt
  omega

end Cert.Proof.Bcast

end
-- ==== Proof.Run.lean ====
/-
  The whole program over any float values: the one SparseCore call takes the table and the flat output and brings them
  back, the output at the table's values; the reshape regroups it by batch. The run ends with both arguments as launched,
  the result at the table repeated over the batches, and every semaphore at zero.
-/
module

public import proofs.«01_k».proof.Proof.Launch
public import proofs.«01_k».proof.Proof.Value

@[expose] public section

noncomputable section

namespace Cert.Proof.Bcast

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## What the launch deals -/

def u₀ : UU := (initOf (K (F := F)).hsCells (K (F := F)).hsToks, 1)

omit [FloatOps F] in
theorem bigSep_emp' {α : Type} (s : Finset α) : (bigSep s fun _ => (iprop(emp) : sProp 𝕄)) = iprop(emp) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays @main holds -/

abbrev xLoc (d : Dev nD) : Loc nD τ sig := (SparseCore.T d).loc main_arg0
abbrev rLoc (d : Dev nD) : Loc nD τ sig := (SparseCore.T d).loc main_v1

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- The reshape of the flat output into the result. -/
abbrev opReshape : HloOp τ sig (Elt F) := StableHlo.reshape main_v0 main_v1 (rfl : (.f32 : EltTy) = .f32) shapeCasts_S32768x2048_S4x8192x2048

/-- The TensorCore's arrays: the positions, the table, the flat output, the result. -/
abbrev arrs : Finset (DevRef τ sig) := {x', t', o', r'}

omit [FloatOps F] in
theorem held_arrs (d : Dev nD) (W : Valuation τ sig (Elt F)) :
    (StableHlo.held (T d) arrs W : sProp 𝕄)
      = iprop((xLoc d ↦{fullShare} W x') ∗ (tLoc d ↦{fullShare} W t') ∗ (oLoc d ↦{fullShare} W o') ∗ rLoc d ↦{fullShare} W r') := by
  unfold StableHlo.held arrs
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (tLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch contents; and after the call, the flat output at the table's values. -/
def V0 (d : Dev nD) : Valuation τ sig (Elt F) := fun b => m (d, b)
def V1 (d : Dev nD) : Valuation τ sig (Elt F) := Function.update (V0 m d) o' (bcast (m (tLoc d)))

omit [FloatOps F] in
theorem unscoped_held (d : Dev nD) :
    (unscopedBufs d (fun b => m ((SparseCore.T d).loc b)) : sProp 𝕄) = StableHlo.held (T d) arrs (V0 m d) := by
  rw [unscopedBufs_eq, held_arrs]; rfl

omit [FloatOps F] in
theorem V1_o (d : Dev nD) : V1 m d o' = bcast (m (tLoc d)) := Function.update_self _ _ _
omit [FloatOps F] in
theorem V1_ne (d : Dev nD) {b : DevRef τ sig} (h : b ≠ o') : V1 m d b = m (d, b) := Function.update_of_ne h _ _

omit [FloatOps F] in
/-- The arrays after the call. -/
theorem held_V1 (d : Dev nD) :
    (StableHlo.held (T d) arrs (V1 m d) : sProp 𝕄) = iprop((xLoc d ↦{fullShare} m (xLoc d)) ∗ (tLoc d ↦{fullShare} m (tLoc d))
      ∗ (oLoc d ↦{fullShare} bcast (m (tLoc d))) ∗ rLoc d ↦{fullShare} m (rLoc d)) := by
  rw [held_arrs, V1_o, V1_ne m d (show x' ≠ o' by decide), V1_ne m d (show t' ≠ o' by decide), V1_ne m d (show r' ≠ o' by decide)]

/-- The result after the reshape. -/
theorem result_r (d : Dev nD) : (opReshape (F := F)).result (V1 m d) r' = res (m (tLoc d)) := by
  rw [StableHlo.reshape_result, V1_o]
  exact reshape_bcast (m (tLoc d)) shapeCasts_S32768x2048_S4x8192x2048

theorem result_ne (d : Dev nD) {b : DevRef τ sig} (hr : b ∉ ({r'} : Finset (DevRef τ sig))) (ho : b ≠ o') :
    (opReshape (F := F)).result (V1 m d) b = m (d, b) :=
  ((opReshape (F := F)).result_of_not_mem (V1 m d) hr).trans (V1_ne m d ho)

/-- The arrays after the reshape. -/
theorem held_V2 (d : Dev nD) :
    (StableHlo.held (T d) arrs ((opReshape (F := F)).result (V1 m d)) : sProp 𝕄)
      = iprop((xLoc d ↦{fullShare} m (xLoc d)) ∗ (tLoc d ↦{fullShare} m (tLoc d))
        ∗ (oLoc d ↦{fullShare} (opReshape (F := F)).result (V1 m d) o') ∗ rLoc d ↦{fullShare} res (m (tLoc d))) := by
  rw [held_arrs, result_r, result_ne m d (b := x') (by decide) (by decide), result_ne m d (b := t') (by decide) (by decide)]

/-! ## What the call takes and brings back -/

omit [FloatOps F] in
theorem st0_eq (d : Dev nD) : (bigSep Finset.univ fun c : Fin ((K (F := F)).nCore 0) => (P m).st 0 d c)
    = iprop((tLoc d ↦{fullShare} m (tLoc d)) ∗ (oLoc d ↦{fullShare} m (oLoc d))) := by
  rw [← cores_eq]
  exact bigSep_congr fun c _ => st_eq m d c
omit [FloatOps F] in
theorem dn0_eq (d : Dev nD) : (bigSep Finset.univ fun c : Fin ((K (F := F)).nCore 0) => (P m).dn 0 d c)
    = iprop((tLoc d ↦{fullShare} m (tLoc d)) ∗ (oLoc d ↦{fullShare} bcast (m (tLoc d)))) := by
  rw [← cores_eq]
  exact bigSep_congr fun c _ => dn_eq m d c

theorem hReshape : (opReshape (F := F)).bufs ⊆ arrs := show ({o', r'} : Finset (DevRef τ sig)) ⊆ arrs by decide

/-! ## @main on the TensorCore -/

/-- What @main leaves: the arguments as launched, the result at the table repeated over the batches. -/
abbrev FIN (d : Dev nD) : sProp 𝕄 :=
  iprop((xLoc d ↦{fullShare} m (xLoc d)) ∗ (tLoc d ↦{fullShare} m (tLoc d)) ∗ rLoc d ↦{fullShare} res (m (tLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_arrs (F := F) d _)) $$ Hheld
  icases Hh with ⟨Hx, Ht, Ho, Hr⟩
  iapply ((K (F := F)).wp_run (D (F := F)) 𝒱 (EH := EH) (P := P m) κ d 0) $$ [Hst Hx Ht Ho Hb Hr Hts]
  isplitr; · iexact Hctx
  isplitl [Hst]; · iexact Hst
  isplitl [Ht Ho]
  · rw [st0_eq]
    isplitl [Ht]; · iexact Ht
    iexact Ho
  iintro ⟨Hst, Hdn⟩
  ihave Hdn' := (Entails.of_eq (dn0_eq m d)) $$ Hdn
  icases Hdn' with ⟨Ht, Ho⟩
  iapply (wp_hlo_within 𝒱 (SparseCore.T d) none Set.univ (op := opReshape) (S := arrs) hReshape (V := V1 m d)) $$ [Hb Hx Ht Ho Hr]
  · isplitl [Hb]; · iexact Hb
    rw [held_V1]
    isplitl [Hx]; · iexact Hx
    isplitl [Ht]; · iexact Ht
    isplitl [Ho]; · iexact Ho
    iexact Hr
  iintro ⟨Hb, Hheld⟩
  ihave Hh := (Entails.of_eq (held_V2 (F := F) m d)) $$ Hheld
  icases Hh with ⟨Hx, Ht, -, Hr⟩
  rw [wp_ret]; imodintro; imodintro
  isplitl [Hst]; · iexact Hst
  isplitr [Hb Hts]
  · isplitl [Hx]; · iexact Hx
    isplitl [Ht]; · iexact Ht
    iexact Hr
  isplitl [Hb] <;> iassumption

/-! ## The run -/

def fq (d : Dev nD) (s' : Phys nD τ sig (Elt F)) : Prop :=
  s'.mem.mem (xLoc d) = m (xLoc d) ∧ s'.mem.mem (tLoc d) = m (tLoc d) ∧ s'.mem.mem (rLoc d) = res (m (tLoc d))

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := res (m (tLoc d)))) $$ [HSI Hr]
  · isplitl [HSI] <;> iassumption
  icases H with %hr
  ipureintro
  exact ⟨funext fun i => hx i (Finset.mem_univ i), funext fun i => ht i (Finset.mem_univ i), funext fun i => hr i (Finset.mem_univ i)⟩

/-- The run's end: on every device the arguments as launched and the result at its value; every semaphore at zero. -/
def QC : PUnit × MemSt nD τ sig (Elt F) → Prop := fun r =>
  (∀ c : Dev nD, r.2.mem (xLoc c) = m (xLoc c) ∧ r.2.mem (tLoc c) = m (tLoc c) ∧ r.2.mem (rLoc c) = res (m (tLoc c)))
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Bcast

end
-- ==== Proof.Ref.lean ====
/-
  The reference's value. Its positions are the row numbers 0 … 8191 in every batch, none of which the lookup wraps or masks,
  so its lookup reads row `s` of the table at entry `(b, s, e)`: the table repeated over the batches.
-/
module

public import proofs.«01_k».proof.Proof.Value
public import proofs.«01_k».proof.Proof.Gen.ReferenceIdeal.Run
public import Idealize.ShloMosaic.Lib.ReduceAll
public import Idealize.ShloMosaic.Lib.ValueIdxCore

@[expose] public section

noncomputable section

namespace Cert.Proof.Bcast.Ref

open Cert.ReferenceIdeal Cert.ReferenceIdeal.Gen
open Idealize.ShloMosaic Idealize.SL.Sem

variable {F : FTy → Type} [FloatOps F]

/-! ## Row numbers as 32-bit words -/

theorem toInt_row {n : ℕ} (h : n < 8192) : (BitVec.ofNat 32 n).toInt = n := by
  rw [BitVec.toInt_eq_toNat_of_lt] <;> simp only [BitVec.toNat_ofNat] <;> omega

theorem slt_zero {n : ℕ} (h : n < 8192) : IntOp.cmpi .slt (BitVec.ofNat 32 n) 0#32 = 0#1 := by
  show BitVec.ofBool ((BitVec.ofNat 32 n).slt 0#32) = 0#1
  rw [BitVec.slt_eq_decide, toInt_row h, decide_eq_false (by simp)]; rfl

theorem sge_zero {n : ℕ} (h : n < 8192) : IntOp.cmpi .sge (BitVec.ofNat 32 n) 0#32 = 1#1 := by
  show BitVec.ofBool ((0#32 : BitVec 32).sle (BitVec.ofNat 32 n)) = 1#1
  rw [BitVec.sle_eq_decide, toInt_row h, decide_eq_true (by simp)]; rfl

theorem sle_last {n : ℕ} (h : n < 8192) : IntOp.cmpi .sle (BitVec.ofNat 32 n) 8191#32 = 1#1 := by
  show BitVec.ofBool ((BitVec.ofNat 32 n).sle 8191#32) = 1#1
  rw [BitVec.sle_eq_decide, toInt_row h, show (8191#32 : BitVec 32).toInt = 8191 from by decide, decide_eq_true (by omega)]; rfl

/-! ## The positions -/

/-- The positions, as the reference forms them. -/
abbrev pos : IVec S4x8192 32 :=
  muli (broadcastInDim S4x8192 ![0, 1] bcast_S1x8192_S4x8192_0_1 (broadcastInDim S1x8192 ![1] bcast_S8192_S1x8192_1 (iotaInDim S8192 32 0)))
    (broadcastInDim S4x8192 ![] bcast_S_S4x8192 (constantI S_ 32 1#32))

theorem pos_apply (i : S4x8192.Idx) : pos i = BitVec.ofNat 32 (i 1).val := by
  show BitVec.ofNat 32 _ * 1#32 = _
  rw [BitVec.mul_one]
  rfl

/-- The positions with negative ones counted from the end. -/
abbrev wrapped : IVec S4x8192 32 :=
  select (cmpi .slt pos (broadcastInDim S4x8192 ![] bcast_S_S4x8192 (constantI S_ 32 0#32)))
    (addi pos (broadcastInDim S4x8192 ![] bcast_S_S4x8192 (constantI S_ 32 8192#32))) pos

theorem wrapped_apply (i : S4x8192.Idx) : wrapped i = BitVec.ofNat 32 (i 1).val := by
  show Scalar.select (IntOp.cmpi .slt (pos i) 0#32) _ (pos i) = _
  rw [pos_apply, slt_zero (i 1).isLt, ValueIdx.select_zero]

/-- The start indices of the lookup. -/
abbrev starts : IVec S4x8192x1 32 := broadcastInDim S4x8192x1 ![0, 1] bcast_S4x8192_S4x8192x1_0_1 wrapped

theorem starts_apply (j : S4x8192x1.Idx) : starts j = BitVec.ofNat 32 (j 1).val := (wrapped_apply _).trans rfl

/-! ## The mask -/

/-- Whether a start index is a row of the table. -/
abbrev inRange : IVec S4x8192x1 1 :=
  andi (cmpi .sge starts (broadcastInDim S4x8192x1 ![] bcast_S_S4x8192x1 (constantI S_ 32 0#32)))
    (cmpi .sle starts (broadcastInDim S4x8192x1 ![0, 1, 2] bcast_S1x1x1_S4x8192x1_0_1_2
      (broadcastInDim S1x1x1 ![2] bcast_S1_S1x1x1_2 (constantI S1 32 8191#32))))

theorem inRange_apply (j : S4x8192x1.Idx) : inRange j = 1#1 := by
  show IntOp.andi (IntOp.cmpi .sge (starts j) 0#32) (IntOp.cmpi .sle (starts j) 8191#32) = 1#1
  rw [starts_apply, sge_zero (j 1).isLt, sle_last (j 1).isLt]; rfl

theorem mask_apply (i : S4x8192.Idx) :
    Host.reduce IntOp.andi inRange (constantI S_ 1 1#1) reducesTo_S4x8192x1_S4x8192_d2 h_S_ i = 1#1 :=
  Host.reduce_andi_one _ _ _ _ _ rfl inRange_apply

/-! ## The lookup -/

/-- The start index an entry reads. -/
def startIdx (y : S4x8192x2048.Idx) : S4x8192x1.Idx := fun
  | 0 => y 0
  | 1 => y 1
  | 2 => ⟨0, Nat.one_pos⟩

abbrev dims : GatherDims S8192x2048 S4x8192x1 S4x8192x2048 := gather_S8192x2048_S4x8192x1_S4x8192x2048_2_0_n_n_0_2_12048

theorem siIdx_eq (y : S4x8192x2048.Idx) (c : Fin dims.startIndexMap.length) : dims.siIdx y c = startIdx y := by
  have hc : c = ⟨0, Nat.one_pos⟩ := Fin.ext (Nat.lt_one_iff.1 c.isLt)
  subst hc
  funext b
  refine Fin.ext ?_
  match b with
  | ⟨0, _⟩ => rfl
  | ⟨1, _⟩ => rfl
  | ⟨2, _⟩ => rfl

theorem operandIdx_eq (y : S4x8192x2048.Idx) : dims.operandIdx y starts = resIdx y := by
  funext a
  refine Fin.ext ?_
  show dims.start y starts a + dims.batchCoord y a + dims.offCoord y a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ dims.startIndexMap from List.mem_singleton.mpr rfl), siIdx_eq, starts_apply,
      toInt_row (startIdx y 1).isLt, Int.toNat_natCast]
    have h1 : (y 1).val < 8192 := (y 1).isLt
    show min (y 1).val (8192 - 1) = (y 1).val
    omega
  · unfold GatherDims.start
    rw [dif_neg (show ¬ (1 : Fin 2) ∈ dims.startIndexMap from fun h => absurd (List.mem_singleton.mp h) (by decide)), Nat.zero_add]
    rfl

/-! ## The result -/

/-- The reference's run: the arguments as launched and the result at the table repeated over the batches. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = res (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run (F := F) m ρ)
  funext y
  show Scalar.select (Host.reduce IntOp.andi inRange (constantI S_ 1 1#1) reducesTo_S4x8192x1_S4x8192_d2 h_S_ _)
    (m ((c.tc : Thread nD τ).loc main_arg1) (dims.operandIdx y starts)) _ = m ((c.tc : Thread nD τ).loc main_arg1) (resIdx y)
  rw [mask_apply, ValueIdx.select_one, operandIdx_eq]

end Cert.Proof.Bcast.Ref

end
-- ==== Proof.lean ====
/-
  The certificate of the row-broadcast kernel: the run of Proof/Run.lean read at the claims. The kernel and its idealization
  are the same text, so the one run over any float values gives both frames, at the machine's floats and at the reals; the
  value claim pairs it with the reference's run (Proof/Ref.lean), both results being the table repeated over the batches.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the machine's floats. -/
theorem frame_kernel : Cert.quiescent_Kernel := fun m ρ _ =>
  (θ_run Cert.KernelIdeal.defs _ _).mono (fun _ h => ⟨fun c => ⟨(h.1 c).1, (h.1 c).2.1⟩, h.2⟩) (Bcast.run_main (F := Bits) m ρ)

/-- The kernel at the reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Bcast.run_main (F := Ideal) m ρ)

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Bcast.Ref.run (F := Ideal) m ρ)

/-- Both results are the table repeated over the batches. -/
theorem same_value : Cert.algebraic_KernelIdeal_ReferenceIdeal := fun m ρ m' ρ' _ agree =>
  ⟨fun c => Bcast.res (m (Bcast.tLoc c)),
    (θ_run Cert.KernelIdeal.defs _ _).mono (fun _ h c => ⟨(h.1 c).2.2, (h.1 c).1, (h.1 c).2.1⟩) (Bcast.run_main (F := Ideal) m ρ),
    (θ_run Cert.ReferenceIdeal.defs _ _).mono (fun _ h c => ⟨(h c).1.trans (congrArg Bcast.res (agree c).2), (h c).2⟩)
      (Bcast.Ref.run (F := Ideal) m' ρ')⟩

theorem claim : Cert.Claim := ⟨Cert.Kernel.Gen.facts, Cert.KernelIdeal.Gen.facts, Cert.ReferenceIdeal.Gen.facts,
  frame_kernel, frame_kernelIdeal, frame_reference, trivial, same_value⟩

end Cert.Proof

end
